-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x1536 : Shape := ⟨3, ![128, 1, 1536]⟩
abbrev S192x30592 : Shape := ⟨2, ![192, 30592]⟩
abbrev S12x30592 : Shape := ⟨2, ![12, 30592]⟩
abbrev S12x3824 : Shape := ⟨2, ![12, 3824]⟩
abbrev S128x1536 : Shape := ⟨2, ![128, 1536]⟩
abbrev S128x30592 : Shape := ⟨2, ![128, 30592]⟩
abbrev S192x1024 : Shape := ⟨2, ![192, 1024]⟩
abbrev S12x1024 : Shape := ⟨2, ![12, 1024]⟩
abbrev S12x128 : Shape := ⟨2, ![12, 128]⟩
abbrev S128x1024 : Shape := ⟨2, ![128, 1024]⟩
abbrev S12x128x1 : Shape := ⟨3, ![12, 128, 1]⟩
abbrev S16x1024 : Shape := ⟨2, ![16, 1024]⟩
abbrev S16x8x1024 : Shape := ⟨3, ![16, 8, 1024]⟩
abbrev S16x1x1024 : Shape := ⟨3, ![16, 1, 1024]⟩
abbrev S1x1024 : Shape := ⟨2, ![1, 1024]⟩
abbrev S1536x1024 : Shape := ⟨2, ![1536, 1024]⟩
abbrev S128x1x30592 : Shape := ⟨3, ![128, 1, 30592]⟩

abbrev nBuf : Space → Nat
  | .hbm => 7
  | .vmem => 9
  | .smem => 0
  | _ => 0

abbrev bufTy : (tb : Table) → Fin (tcTables nBuf tb) → BufTy
  | .hbm, ⟨0, _⟩ => ⟨S128x1x1536, .bf16⟩
  | .hbm, ⟨1, _⟩ => ⟨S192x30592, .i32⟩
  | .hbm, ⟨2, _⟩ => ⟨S12x30592, .bf16⟩
  | .hbm, ⟨3, _⟩ => ⟨S12x3824, .i32⟩
  | .hbm, ⟨4, _⟩ => ⟨S128x1536, .bf16⟩
  | .hbm, ⟨5, _⟩ => ⟨S128x30592, .bf16⟩
  | .hbm, ⟨6, _⟩ => ⟨S128x1x30592, .bf16⟩
  | .local _ .vmem, ⟨0, _⟩ => ⟨S128x1536, .bf16⟩
  | .local _ .vmem, ⟨1, _⟩ => ⟨S192x1024, .i32⟩
  | .local _ .vmem, ⟨2, _⟩ => ⟨S192x1024, .i32⟩
  | .local _ .vmem, ⟨3, _⟩ => ⟨S12x1024, .bf16⟩
  | .local _ .vmem, ⟨4, _⟩ => ⟨S12x1024, .bf16⟩
  | .local _ .vmem, ⟨5, _⟩ => ⟨S12x128, .i32⟩
  | .local _ .vmem, ⟨6, _⟩ => ⟨S12x128, .i32⟩
  | .local _ .vmem, ⟨7, _⟩ => ⟨S128x1024, .bf16⟩
  | .local _ .vmem, ⟨8, _⟩ => ⟨S128x1024, .bf16⟩
  | _, _ => ⟨S128x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S192x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x1x1536 : Shape := ⟨3, ![128, 1, 1536]⟩
abbrev S192x30592 : Shape := ⟨2, ![192, 30592]⟩
abbrev S12x30592 : Shape := ⟨2, ![12, 30592]⟩
abbrev S12x3824 : Shape := ⟨2, ![12, 3824]⟩
abbrev S8 : Shape := ⟨1, ![8]⟩
abbrev S_ : Shape := ⟨0, ![]⟩
abbrev S12x3824x1 : Shape := ⟨3, ![12, 3824, 1]⟩
abbrev S1x1x8 : Shape := ⟨3, ![1, 1, 8]⟩
abbrev S12x3824x8 : Shape := ⟨3, ![12, 3824, 8]⟩
abbrev S8x1x1 : Shape := ⟨3, ![8, 1, 1]⟩
abbrev S1x192x30592 : Shape := ⟨3, ![1, 192, 30592]⟩
abbrev S8x192x30592 : Shape := ⟨3, ![8, 192, 30592]⟩
abbrev S8x12x16x30592 : Shape := ⟨4, ![8, 12, 16, 30592]⟩
abbrev S1x12x1x30592 : Shape := ⟨4, ![1, 12, 1, 30592]⟩
abbrev S1536x30592 : Shape := ⟨2, ![1536, 30592]⟩
abbrev S128x192x8 : Shape := ⟨3, ![128, 192, 8]⟩
abbrev S128x8x192 : Shape := ⟨3, ![128, 8, 192]⟩
abbrev S128x1536 : Shape := ⟨2, ![128, 1536]⟩
abbrev S128x30592 : Shape := ⟨2, ![128, 30592]⟩
abbrev S128x1x30592 : Shape := ⟨3, ![128, 1, 30592]⟩

abbrev nBuf : Space → Nat
  | .hbm => 45
  | .vmem => 0
  | .smem => 0
  | _ => 0

abbrev bufTy : (tb : Table) → Fin (tcTables nBuf tb) → BufTy
  | .hbm, ⟨0, _⟩ => ⟨S128x1x1536, .bf16⟩
  | .hbm, ⟨1, _⟩ => ⟨S192x30592, .i32⟩
  | .hbm, ⟨2, _⟩ => ⟨S12x30592, .bf16⟩
  | .hbm, ⟨3, _⟩ => ⟨S12x3824, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S12x3824x1, .i32⟩
  | .hbm, ⟨9, _⟩ => ⟨S1x1x8, .i32⟩
  | .hbm, ⟨10, _⟩ => ⟨S12x3824x8, .i32⟩
  | .hbm, ⟨11, _⟩ => ⟨S12x3824x8, .i32⟩
  | .hbm, ⟨12, _⟩ => ⟨S12x3824x8, .i32⟩
  | .hbm, ⟨13, _⟩ => ⟨S_, .i32⟩
  | .hbm, ⟨14, _⟩ => ⟨S12x3824x8, .i32⟩
  | .hbm, ⟨15, _⟩ => ⟨S12x3824x8, .i32⟩
  | .hbm, ⟨16, _⟩ => ⟨S12x30592, .i32⟩
  | .hbm, ⟨17, _⟩ => ⟨S12x30592, .bf16⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8x1x1, .i32⟩
  | .hbm, ⟨23, _⟩ => ⟨S1x192x30592, .i32⟩
  | .hbm, ⟨24, _⟩ => ⟨S8x192x30592, .i32⟩
  | .hbm, ⟨25, _⟩ => ⟨S8x192x30592, .i32⟩
  | .hbm, ⟨26, _⟩ => ⟨S8x192x30592, .i32⟩
  | .hbm, ⟨27, _⟩ => ⟨S_, .i32⟩
  | .hbm, ⟨28, _⟩ => ⟨S8x192x30592, .i32⟩
  | .hbm, ⟨29, _⟩ => ⟨S8x192x30592, .i32⟩
  | .hbm, ⟨30, _⟩ => ⟨S8x192x30592, .bf16⟩
  | .hbm, ⟨31, _⟩ => ⟨S8x12x16x30592, .bf16⟩
  | .hbm, ⟨32, _⟩ => ⟨S1x12x1x30592, .bf16⟩
  | .hbm, ⟨33, _⟩ => ⟨S8x12x16x30592, .bf16⟩
  | .hbm, ⟨34, _⟩ => ⟨S8x12x16x30592, .bf16⟩
  | .hbm, ⟨35, _⟩ => ⟨S1x12x1x30592, .bf16⟩
  | .hbm, ⟨36, _⟩ => ⟨S8x12x16x30592, .bf16⟩
  | .hbm, ⟨37, _⟩ => ⟨S8x12x16x30592, .bf16⟩
  | .hbm, ⟨38, _⟩ => ⟨S1536x30592, .bf16⟩
  | .hbm, ⟨39, _⟩ => ⟨S128x192x8, .bf16⟩
  | .hbm, ⟨40, _⟩ => ⟨S128x8x192, .bf16⟩
  | .hbm, ⟨41, _⟩ => ⟨S128x1536, .bf16⟩
  | .hbm, ⟨42, _⟩ => ⟨S128x30592, .f32⟩
  | .hbm, ⟨43, _⟩ => ⟨S128x30592, .bf16⟩
  | .hbm, ⟨44, _⟩ => ⟨S128x1x30592, .bf16⟩
  | _, _ => ⟨S128x1x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Proof.BodyKernel.lean ====
/-
  The body of the kernel, run once: from the four input buffers at any contents it leaves them as they
  were and the result's buffer at `out0_4` of them. (Program `Kernel`, any float instance.)
-/
module

public import proofs.«01_k».proof.Proof.Gen.Kernel.Frame
public import proofs.«01_k».proof.Proof.Gen.Kernel.Skeleton
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F]

local notation "𝕄" => MT nD τ sig Unit (Elt F) ℕ (UR sig nD τ) ℕ

/-! ## The body's accesses -/

abbrev r0_0 : Rect S12x128 := Rect.unit (s := S12x128) ![0, 0] S12x128.size inb_S12x128_S12x128_0_0
abbrev r0_1 : Rect S12x1024 := Rect.unit (s := S12x1024) ![0, 0] S12x1024.size inb_S12x1024_S12x1024_0_0
abbrev r0_2 : Rect S192x1024 := Rect.unit (s := S192x1024) ![0, 0] S16x1024.size inb_S192x1024_S16x1024_0_0
abbrev r0_3 : Rect S192x1024 := Rect.unit (s := S192x1024) ![16, 0] S16x1024.size inb_S192x1024_S16x1024_16_0
abbrev r0_4 : Rect S192x1024 := Rect.unit (s := S192x1024) ![32, 0] S16x1024.size inb_S192x1024_S16x1024_32_0
abbrev r0_5 : Rect S192x1024 := Rect.unit (s := S192x1024) ![48, 0] S16x1024.size inb_S192x1024_S16x1024_48_0
abbrev r0_6 : Rect S192x1024 := Rect.unit (s := S192x1024) ![64, 0] S16x1024.size inb_S192x1024_S16x1024_64_0
abbrev r0_7 : Rect S192x1024 := Rect.unit (s := S192x1024) ![80, 0] S16x1024.size inb_S192x1024_S16x1024_80_0
abbrev r0_8 : Rect S192x1024 := Rect.unit (s := S192x1024) ![96, 0] S16x1024.size inb_S192x1024_S16x1024_96_0
abbrev r0_9 : Rect S192x1024 := Rect.unit (s := S192x1024) ![112, 0] S16x1024.size inb_S192x1024_S16x1024_112_0
abbrev r0_10 : Rect S192x1024 := Rect.unit (s := S192x1024) ![128, 0] S16x1024.size inb_S192x1024_S16x1024_128_0
abbrev r0_11 : Rect S192x1024 := Rect.unit (s := S192x1024) ![144, 0] S16x1024.size inb_S192x1024_S16x1024_144_0
abbrev r0_12 : Rect S192x1024 := Rect.unit (s := S192x1024) ![160, 0] S16x1024.size inb_S192x1024_S16x1024_160_0
abbrev r0_13 : Rect S192x1024 := Rect.unit (s := S192x1024) ![176, 0] S16x1024.size inb_S192x1024_S16x1024_176_0
abbrev r0_14 : Rect S128x1536 := Rect.unit (s := S128x1536) ![0, 0] S128x1536.size inb_S128x1536_S128x1536_0_0
abbrev r0_15 : Rect S128x1024 := Rect.unit (s := S128x1024) ![0, 0] S128x1024.size inb_S128x1024_S128x1024_0_0

/-! ## What the body leaves in each output window's buffer -/

/-! ### Two values of the body that the stored vector names more than once: the lane numbers, and the zero points -/

/-- The lane number of each word of the packed zero points' block. -/
def k0_pay47 (x0 : Vec F S128x1536 .bf16) (x1 : Vec F S192x1024 .i32) (x2 : Vec F S12x1024 .bf16) (x3 : Vec F S12x128 .i32) : IVec S12x128 32 :=
  iota .tc S12x128 32 [1] iota_S12x128_d1_w32 -- `v1`
/-- The zero points of the block, one per group and column, unpacked and converted. -/
def k0_pay48 (x0 : Vec F S128x1536 .bf16) (x1 : Vec F S192x1024 .i32) (x2 : Vec F S12x1024 .bf16) (x3 : Vec F S12x128 .i32) : FVec F S12x1024 .bf16 :=
  k0_pay29 (View.ld x3 r0_0) (k0_pay47 x0 x1 x2 x3) (k0_pay5 (k0_pay2 (View.ld x3 r0_0)) (Scalar.select (Scalar.cmpi .eq 8#32 0#32) 1#32 8#32) k0_pay3 k0_pay4 0#32) (k0_pay7 (View.ld x3 r0_0) (k0_pay47 x0 x1 x2 x3) (k0_pay6 (k0_pay47 x0 x1 x2 x3))) (k0_pay11 (View.ld x3 r0_0) (k0_pay47 x0 x1 x2 x3) (k0_pay8 (k0_pay47 x0 x1 x2 x3)) (k0_pay9 (k0_pay47 x0 x1 x2 x3)) k0_pay10) (k0_pay14 (View.ld x3 r0_0) (k0_pay47 x0 x1 x2 x3) 8#32 (k0_pay12 (k0_pay47 x0 x1 x2 x3)) (k0_pay13 (k0_pay47 x0 x1 x2 x3)) (Scalar.extui (Scalar.cmpi .sgt 8#32 0#32)) 0#32) (k0_pay19 (k0_pay16 (View.ld x3 r0_0) (k0_pay47 x0 x1 x2 x3) 8#32 (k0_pay15 (k0_pay47 x0 x1 x2 x3))) (Scalar.select (Scalar.cmpi .eq 8#32 0#32) 1#32 8#32) (k0_pay17 (k0_pay47 x0 x1 x2 x3)) (k0_pay18 (k0_pay47 x0 x1 x2 x3))) (k0_pay22 (k0_pay47 x0 x1 x2 x3) (k0_pay20 (View.ld x3 r0_0) (k0_pay47 x0 x1 x2 x3)) (Scalar.select (Scalar.cmpi .eq 8#32 0#32) 1#32 8#32) k0_pay21) (k0_pay25 (View.ld x3 r0_0) (k0_pay47 x0 x1 x2 x3) (k0_pay23 (k0_pay47 x0 x1 x2 x3)) (k0_pay24 (k0_pay47 x0 x1 x2 x3))) (k0_pay26 (k0_pay47 x0 x1 x2 x3)) (k0_pay27 (k0_pay47 x0 x1 x2 x3)) (k0_pay28 (k0_pay47 x0 x1 x2 x3)) 0#32 -- `v444`

/-- What the body leaves in the result's buffer, from the four input buffers' contents: its one store, which is whole. -/
def out0_4 (x0 : Vec F S128x1536 .bf16) (x1 : Vec F S192x1024 .i32) (x2 : Vec F S12x1024 .bf16) (x3 : Vec F S12x128 .i32) : Vec F S128x1024 .bf16 :=
  View.canon [⟨r0_15, k0_pay1 (k0_pay48 x0 x1 x2 x3) (View.ld x2 r0_1) (k0_pay31 (k0_pay48 x0 x1 x2 x3) (View.ld x2 r0_1) (iota .tc S16x8x1024 32 [1] iota_S16x8x1024_d1_w32) (k0_pay30 (View.ld x1 r0_2))) (k0_pay32 (k0_pay48 x0 x1 x2 x3) (View.ld x2 r0_1) (View.ld x1 r0_3)) (k0_pay35 (k0_pay33 (k0_pay48 x0 x1 x2 x3) (View.ld x1 r0_4)) (k0_pay34 (View.ld x2 r0_1))) (k0_pay36 (k0_pay48 x0 x1 x2 x3) (View.ld x2 r0_1) (View.ld x1 r0_5)) (k0_pay37 (k0_pay48 x0 x1 x2 x3) (View.ld x2 r0_1) (View.ld x1 r0_6)) (k0_pay39 (k0_pay48 x0 x1 x2 x3) (View.ld x2 r0_1) (k0_pay38 (View.ld x1 r0_7))) (k0_pay40 (k0_pay48 x0 x1 x2 x3) (View.ld x2 r0_1) (View.ld x1 r0_8)) (k0_pay41 (k0_pay48 x0 x1 x2 x3) (View.ld x2 r0_1) (View.ld x1 r0_9)) (k0_pay44 (k0_pay48 x0 x1 x2 x3) (View.ld x2 r0_1) (iota .tc S16x8x1024 32 [1] iota_S16x8x1024_d1_w32) (k0_pay42 (View.ld x1 r0_10)) k0_pay43) (k0_pay45 (k0_pay48 x0 x1 x2 x3) (View.ld x2 r0_1) (View.ld x1 r0_11)) (k0_pay46 (k0_pay48 x0 x1 x2 x3) (View.ld x2 r0_1) (View.ld x1 r0_12)) (View.ld x1 r0_13) (View.ld x0 r0_14)⟩]

/-- Its stores tile the buffer (checked by evaluation), so they cover it. -/
theorem cover0_4 (p0 : Vec F S128x1024 .bf16) (y : S128x1024.Idx) :
    ∃ pc ∈ ([⟨r0_15, p0⟩] : List (View.Piece (Elt F) S128x1024 .bf16)), y ∈ pc.1.set :=
  View.cover_of_tiled [⟨r0_15, p0⟩] S128x1024.size (by rfl) y

/-! ## The body's triple -/

set_option maxHeartbeats 1017450 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x1536 .bf16) (harg1 : arg1.IsWhole) (arg2 : Memref sig .tc .vmem S192x1024 .i32) (harg2 : arg2.IsWhole) (arg3 : Memref sig .tc .vmem S12x1024 .bf16) (harg3 : arg3.IsWhole) (arg4 : Memref sig .tc .vmem S12x128 .i32) (harg4 : arg4.IsWhole) (arg5 : Memref sig .tc .vmem S128x1024 .bf16) (harg5 : arg5.IsWhole)
    (x0 : Vec F S128x1536 .bf16) (x1 : Vec F S192x1024 .i32) (x2 : Vec F S12x1024 .bf16) (x3 : Vec F S12x128 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_gptq_linear i arg1 harg1 arg2 harg2 arg3 harg3 arg4 harg4 arg5 harg5) K := by
  simp only [cc0_gptq_linear_eq_skeleton]; unfold cc0_gptq_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _)).trans ?_
  rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.Kernel.Hand

end
-- ==== Proof.FrameKernel.lean ====
/-
  The frame of the kernel at the bit-exact floats: every run of @main terminates, leaves the four argument arrays as
  they were, and ends with every semaphore counter at zero. What the result's buffers hold is left unsaid (the window is
  forgotten): the last block overhangs the arrays, and nothing here depends on what the buffers hold past their ends.
-/
module

public import proofs.«01_k».proof.Defs
public import proofs.«01_k».proof.Proof.BodyKernel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body each input's buffer holds its block, filled out
    past the array's end with words nothing names; the result's contents unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => (cfg0.win 3).fill (cfg0.grid.coords t) (fun _ => Classical.arbitrary _) (iblk m c 3 t)
    | ⟨4, _⟩ => Dat.unnamed (4 : Fin cfg0.W) t
  Φ _ := Pipeline.ΦA spec0 c
  q _ := fullShare
  owed _ := 0

/-- The windows left unsaid: the result's. -/
def fgt : Fin cfg0.W → Bool := fun w => w.val == 4

/-- The contents of each window's array are the memory's. -/
theorem A_eq (c : Dev nD) (w : Fin cfg0.W) : (dats m 0 c).A w = V m c (Pipeline.arrRef spec0 w) := by
  dsimp only [dats]

/-- The body leaves the activations' buffer as it found it. -/
theorem after0_0 (c : Dev nD) (t : Fin cfg0.N) : (dats m 0 c).after 0 t = iblk m c 0 t := by dsimp only [dats]

/-- What the body finds in each input's buffer: its block, and past the array's end anything (`d`). -/
theorem before0_0 (c : Dev nD) (t : Fin cfg0.N) (d) : (dats m 0 c).before 0 t d = iblk m c 0 t :=
  before0_0_of m (dats m 0 c) (A_eq m c 0) (after0_0 m c) t d
/-- What it finds in the words' buffer. -/
theorem before0_1 (c : Dev nD) (t : Fin cfg0.N) (d) :
    (dats m 0 c).before 1 t d = (cfg0.win 1).fill (cfg0.grid.coords t) d (iblk m c 1 t) := by
  unfold Dat.before; rw [if_pos (fetch0_1 t)]; rfl
/-- What it finds in the scales' buffer. -/
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl
/-- What it finds in the zero points' buffer. -/
theorem before0_3 (c : Dev nD) (t : Fin cfg0.N) (d) :
    (dats m 0 c).before 3 t d = (cfg0.win 3).fill (cfg0.grid.coords t) d (iblk m c 3 t) := by
  unfold Dat.before; rw [if_pos (fetch0_3 t)]; rfl

/-- What the body leaves on the part of each input's buffer inside the array: the block. -/
theorem cut_after0_1 (c : Dev nD) (t : Fin cfg0.N) :
    (cfg0.win 1).cut (cfg0.grid.coords t) ((dats m 0 c).after 1 t) = iblk m c 1 t := (cfg0.win 1).cut_fill _ _ _
/-- The same for the scales. -/
theorem cut_after0_2 (c : Dev nD) (t : Fin cfg0.N) :
    (cfg0.win 2).cut (cfg0.grid.coords t) ((dats m 0 c).after 2 t) = iblk m c 2 t := (cfg0.win 2).cut_fill _ _ _
/-- The same for the zero points. -/
theorem cut_after0_3 (c : Dev nD) (t : Fin cfg0.N) :
    (cfg0.win 3).cut (cfg0.grid.coords t) ((dats m 0 c).after 3 t) = iblk m c 3 t := (cfg0.win 3).cut_fill _ _ _

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: each input's buffer at its block on the part inside the array, the result's at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ X, owns (c : Thread nD τ) (st0_4 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_kernel c Set.univ (grid0.coords t) _ _ _ _ _ _ _ _ _ _ (iblk m c 0 t)
    ((cfg0.win 1).fill (cfg0.grid.coords t) d1 (iblk m c 1 t)) ((cfg0.win 2).fill (cfg0.grid.coords t) d2 (iblk m c 2 t))
    ((cfg0.win 3).fill (cfg0.grid.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; rw [cut_after0_1]; iexact H1
  isplitl [H2]; · iexists d2; rw [cut_after0_2]; iexact H2
  isplitl [H3]; · iexists d3; rw [cut_after0_3]; iexact H3
  iexists _; iexact H4

/-- The library's body obligation, at every point. -/
theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

/-- The reshape after the region writes the final result alone. -/
theorem sfx_writes : ∀ ops ∈ ([hostOps1] : List (List (HloOp τ sig (Elt F)))), ∀ op ∈ ops,
    ∀ b : Ref sig .tc, Proc.devRef .tc b ∈ op.writes → b ∈ ({main_v2} : Finset (Ref sig .tc)) := by
  intro ops hops op hop b hb
  simp only [List.mem_singleton] at hops; subst hops
  simp only [hostOps1, List.mem_singleton] at hop; subst hop
  simp only [StableHlo.reshape_writes, Finset.mem_singleton] at hb
  rw [Finset.mem_singleton]
  by_contra hne
  exact StableHlo.devRef_ne_of_ne hne hb

set_option backward.isDefEq.respectTransparency.types false in
set_option maxHeartbeats 800000 in
/-- The run: every weakly fair execution of @main terminates, the staged arrays ending as the library says and every other
    buffer but the final result as the region found it, every semaphore counter at zero. -/
theorem run_main : θ_run defs (onTc (τ := τ) (main (F := F))) (s₀ m ρ)
    (fun r => RDat.FramePostR cfg0 (fun c => (dats m 0 c).toRForget fgt) {main_v2} (fun c b => V0 m c (Proc.devRef .tc b)) r ∧ r.2.sem = fun _ => 0) :=
  Pipeline.θ_run_frame_around_T_forget (Q' := _) cfgs (dats m) (0 : Fin 1) launch0 defs₀ Variants.none fgt {main_v2} m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

end Cert.Kernel.Hand

namespace Cert.Proof

open Cert.Kernel Cert.Kernel.Gen Cert.Kernel.Hand
open Idealize.ShloMosaic Idealize.ShloMosaic.TcCoe

/-- The frame claim of `Kernel`: every run terminates with the four arguments unchanged and every counter at zero. -/
theorem frame_Kernel : Cert.quiescent_Kernel := by
  intro m ρ _
  refine (θ_run defs _ _).mono (fun r h => ⟨fun c => ⟨?_, ?_, ?_, ?_⟩, h.2⟩) (Cert.Kernel.Hand.run_main (F := Bits) m ρ)
  · exact ((h.1 c).2 main_arg0 (Finset.mem_sdiff.mpr ⟨Pipeline.mem_restRefs_of main_arg0 (by decide) (by decide), by decide⟩)).trans (V_main_arg0 m c)
  · exact (h.1.arr_in c 1 rfl).trans (V_main_arg1 m c)
  · exact (h.1.arr_in c 2 rfl).trans (V_main_arg2 m c)
  · exact (h.1.arr_in c 3 rfl).trans (V_main_arg3 m c)

end Cert.Proof

end
-- ==== Proof.BodyKernelIdeal.lean ====
/-
  The body of the kernel, run once: from the four input buffers at any contents it leaves them as they
  were and the result's buffer at `out0_4` of them. (Program `KernelIdeal`, any float instance.)
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)

variable {F : FTy → Type} [FloatOps F]

local notation "𝕄" => MT nD τ sig Unit (Elt F) ℕ (UR sig nD τ) ℕ

/-! ## The body's accesses -/

abbrev r0_0 : Rect S12x128 := Rect.unit (s := S12x128) ![0, 0] S12x128.size inb_S12x128_S12x128_0_0
abbrev r0_1 : Rect S12x1024 := Rect.unit (s := S12x1024) ![0, 0] S12x1024.size inb_S12x1024_S12x1024_0_0
abbrev r0_2 : Rect S192x1024 := Rect.unit (s := S192x1024) ![0, 0] S16x1024.size inb_S192x1024_S16x1024_0_0
abbrev r0_3 : Rect S192x1024 := Rect.unit (s := S192x1024) ![16, 0] S16x1024.size inb_S192x1024_S16x1024_16_0
abbrev r0_4 : Rect S192x1024 := Rect.unit (s := S192x1024) ![32, 0] S16x1024.size inb_S192x1024_S16x1024_32_0
abbrev r0_5 : Rect S192x1024 := Rect.unit (s := S192x1024) ![48, 0] S16x1024.size inb_S192x1024_S16x1024_48_0
abbrev r0_6 : Rect S192x1024 := Rect.unit (s := S192x1024) ![64, 0] S16x1024.size inb_S192x1024_S16x1024_64_0
abbrev r0_7 : Rect S192x1024 := Rect.unit (s := S192x1024) ![80, 0] S16x1024.size inb_S192x1024_S16x1024_80_0
abbrev r0_8 : Rect S192x1024 := Rect.unit (s := S192x1024) ![96, 0] S16x1024.size inb_S192x1024_S16x1024_96_0
abbrev r0_9 : Rect S192x1024 := Rect.unit (s := S192x1024) ![112, 0] S16x1024.size inb_S192x1024_S16x1024_112_0
abbrev r0_10 : Rect S192x1024 := Rect.unit (s := S192x1024) ![128, 0] S16x1024.size inb_S192x1024_S16x1024_128_0
abbrev r0_11 : Rect S192x1024 := Rect.unit (s := S192x1024) ![144, 0] S16x1024.size inb_S192x1024_S16x1024_144_0
abbrev r0_12 : Rect S192x1024 := Rect.unit (s := S192x1024) ![160, 0] S16x1024.size inb_S192x1024_S16x1024_160_0
abbrev r0_13 : Rect S192x1024 := Rect.unit (s := S192x1024) ![176, 0] S16x1024.size inb_S192x1024_S16x1024_176_0
abbrev r0_14 : Rect S128x1536 := Rect.unit (s := S128x1536) ![0, 0] S128x1536.size inb_S128x1536_S128x1536_0_0
abbrev r0_15 : Rect S128x1024 := Rect.unit (s := S128x1024) ![0, 0] S128x1024.size inb_S128x1024_S128x1024_0_0

/-! ## What the body leaves in each output window's buffer -/

/-! ### Two values of the body that the stored vector names more than once: the lane numbers, and the zero points -/

/-- The lane number of each word of the packed zero points' block. -/
def k0_pay47 (x0 : Vec F S128x1536 .bf16) (x1 : Vec F S192x1024 .i32) (x2 : Vec F S12x1024 .bf16) (x3 : Vec F S12x128 .i32) : IVec S12x128 32 :=
  iota .tc S12x128 32 [1] iota_S12x128_d1_w32 -- `v1`
/-- The zero points of the block, one per group and column, unpacked and converted. -/
def k0_pay48 (x0 : Vec F S128x1536 .bf16) (x1 : Vec F S192x1024 .i32) (x2 : Vec F S12x1024 .bf16) (x3 : Vec F S12x128 .i32) : FVec F S12x1024 .bf16 :=
  k0_pay29 (View.ld x3 r0_0) (k0_pay47 x0 x1 x2 x3) (k0_pay5 (k0_pay2 (View.ld x3 r0_0)) (Scalar.select (Scalar.cmpi .eq 8#32 0#32) 1#32 8#32) k0_pay3 k0_pay4 0#32) (k0_pay7 (View.ld x3 r0_0) (k0_pay47 x0 x1 x2 x3) (k0_pay6 (k0_pay47 x0 x1 x2 x3))) (k0_pay11 (View.ld x3 r0_0) (k0_pay47 x0 x1 x2 x3) (k0_pay8 (k0_pay47 x0 x1 x2 x3)) (k0_pay9 (k0_pay47 x0 x1 x2 x3)) k0_pay10) (k0_pay14 (View.ld x3 r0_0) (k0_pay47 x0 x1 x2 x3) 8#32 (k0_pay12 (k0_pay47 x0 x1 x2 x3)) (k0_pay13 (k0_pay47 x0 x1 x2 x3)) (Scalar.extui (Scalar.cmpi .sgt 8#32 0#32)) 0#32) (k0_pay19 (k0_pay16 (View.ld x3 r0_0) (k0_pay47 x0 x1 x2 x3) 8#32 (k0_pay15 (k0_pay47 x0 x1 x2 x3))) (Scalar.select (Scalar.cmpi .eq 8#32 0#32) 1#32 8#32) (k0_pay17 (k0_pay47 x0 x1 x2 x3)) (k0_pay18 (k0_pay47 x0 x1 x2 x3))) (k0_pay22 (k0_pay47 x0 x1 x2 x3) (k0_pay20 (View.ld x3 r0_0) (k0_pay47 x0 x1 x2 x3)) (Scalar.select (Scalar.cmpi .eq 8#32 0#32) 1#32 8#32) k0_pay21) (k0_pay25 (View.ld x3 r0_0) (k0_pay47 x0 x1 x2 x3) (k0_pay23 (k0_pay47 x0 x1 x2 x3)) (k0_pay24 (k0_pay47 x0 x1 x2 x3))) (k0_pay26 (k0_pay47 x0 x1 x2 x3)) (k0_pay27 (k0_pay47 x0 x1 x2 x3)) (k0_pay28 (k0_pay47 x0 x1 x2 x3)) 0#32 -- `v444`

/-- What the body leaves in the result's buffer, from the four input buffers' contents: its one store, which is whole. -/
def out0_4 (x0 : Vec F S128x1536 .bf16) (x1 : Vec F S192x1024 .i32) (x2 : Vec F S12x1024 .bf16) (x3 : Vec F S12x128 .i32) : Vec F S128x1024 .bf16 :=
  View.canon [⟨r0_15, k0_pay1 (k0_pay48 x0 x1 x2 x3) (View.ld x2 r0_1) (k0_pay31 (k0_pay48 x0 x1 x2 x3) (View.ld x2 r0_1) (iota .tc S16x8x1024 32 [1] iota_S16x8x1024_d1_w32) (k0_pay30 (View.ld x1 r0_2))) (k0_pay32 (k0_pay48 x0 x1 x2 x3) (View.ld x2 r0_1) (View.ld x1 r0_3)) (k0_pay35 (k0_pay33 (k0_pay48 x0 x1 x2 x3) (View.ld x1 r0_4)) (k0_pay34 (View.ld x2 r0_1))) (k0_pay36 (k0_pay48 x0 x1 x2 x3) (View.ld x2 r0_1) (View.ld x1 r0_5)) (k0_pay37 (k0_pay48 x0 x1 x2 x3) (View.ld x2 r0_1) (View.ld x1 r0_6)) (k0_pay39 (k0_pay48 x0 x1 x2 x3) (View.ld x2 r0_1) (k0_pay38 (View.ld x1 r0_7))) (k0_pay40 (k0_pay48 x0 x1 x2 x3) (View.ld x2 r0_1) (View.ld x1 r0_8)) (k0_pay41 (k0_pay48 x0 x1 x2 x3) (View.ld x2 r0_1) (View.ld x1 r0_9)) (k0_pay44 (k0_pay48 x0 x1 x2 x3) (View.ld x2 r0_1) (iota .tc S16x8x1024 32 [1] iota_S16x8x1024_d1_w32) (k0_pay42 (View.ld x1 r0_10)) k0_pay43) (k0_pay45 (k0_pay48 x0 x1 x2 x3) (View.ld x2 r0_1) (View.ld x1 r0_11)) (k0_pay46 (k0_pay48 x0 x1 x2 x3) (View.ld x2 r0_1) (View.ld x1 r0_12)) (View.ld x1 r0_13) (View.ld x0 r0_14)⟩]

/-- Its stores tile the buffer (checked by evaluation), so they cover it. -/
theorem cover0_4 (p0 : Vec F S128x1024 .bf16) (y : S128x1024.Idx) :
    ∃ pc ∈ ([⟨r0_15, p0⟩] : List (View.Piece (Elt F) S128x1024 .bf16)), y ∈ pc.1.set :=
  View.cover_of_tiled [⟨r0_15, p0⟩] S128x1024.size (by rfl) y

/-! ## The body's triple -/

set_option maxHeartbeats 1017450 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x1536 .bf16) (harg1 : arg1.IsWhole) (arg2 : Memref sig .tc .vmem S192x1024 .i32) (harg2 : arg2.IsWhole) (arg3 : Memref sig .tc .vmem S12x1024 .bf16) (harg3 : arg3.IsWhole) (arg4 : Memref sig .tc .vmem S12x128 .i32) (harg4 : arg4.IsWhole) (arg5 : Memref sig .tc .vmem S128x1024 .bf16) (harg5 : arg5.IsWhole)
    (x0 : Vec F S128x1536 .bf16) (x1 : Vec F S192x1024 .i32) (x2 : Vec F S12x1024 .bf16) (x3 : Vec F S12x128 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_gptq_linear i arg1 harg1 arg2 harg2 arg3 harg3 arg4 harg4 arg5 harg5) K := by
  simp only [cc0_gptq_linear_eq_skeleton]; unfold cc0_gptq_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _)).trans ?_
  rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.KernelIdeal.Hand

end
-- ==== Proof.PayKernelIdeal.lean ====
/-
  The vector the kernel's body stores, folded: twelve groups of 128 dequantized rows laid end to end, multiplied by the
  activations. Each group is ONE function of its number (`wgrp`), and each of the eight pieces of the zero points is one
  function of its first word's number (`zcol`); the printed terms are these by unfolding.
-/
module

public import proofs.«01_k».proof.Proof.BodyKernelIdeal
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The zero points -/

/-- The word the zero point of lane `l` is in: the lane over eight, rounded down, plus the piece's first word `b`,
    brought into range if negative — as printed. -/
def zIdx (b l : BitVec 32) : BitVec 32 :=
  let d := IntOp.divsi .vector l 8#32
  let q := Scalar.select (IntOp.andi
      (IntOp.cmpi .ne (IntOp.subi ((IntOp.cmpi .sgt l 0#32).setWidth 32) ((IntOp.cmpi .slt l 0#32).setWidth 32))
        (Scalar.subi (Scalar.extui (Scalar.cmpi .sgt (8#32 : BitVec 32) 0#32)) (Scalar.extui (Scalar.cmpi .slt (8#32 : BitVec 32) 0#32))))
      (IntOp.cmpi .ne (IntOp.remsi .vector l 8#32) 0#32)) (IntOp.subi d 1#32) d
  let e := IntOp.addi q b
  Scalar.select (IntOp.cmpi .slt e 0#32) (IntOp.addi e 128#32) e

/-- How far that word is shifted for lane `l`: four times the lane modulo eight — as printed. -/
def zShift (l : BitVec 32) : BitVec 32 :=
  let v : BitVec 32 := Scalar.select (Scalar.cmpi .eq (8#32 : BitVec 32) 0#32) 1#32 8#32
  let r := IntOp.remsi .vector l v
  IntOp.muli (Scalar.select (IntOp.andi (IntOp.xori (IntOp.cmpi .slt r 0#32) (Scalar.cmpi .slt v 0#32)) (IntOp.cmpi .ne r 0#32))
    (IntOp.addi r v) r) 4#32

/-- One piece of 128 columns of the zero points, from its first word's number `b`: the words gathered, shifted, masked. -/
def zcol (x3 : IVec S12x128 32) (b : BitVec 32) : IVec S12x128 32 :=
  andi (shrsi (dynamicGather 1 x3 (shapeCast S12x128 (shapeCast S12x128x1
      (fun j : S12x128.Idx => zIdx b (iota .tc S12x128 32 [1] iota_S12x128_d1_w32 j)) shapeCasts_S12x128_S12x128x1) shapeCasts_S12x128x1_S12x128))
    (fun j => zShift (iota .tc S12x128 32 [1] iota_S12x128_d1_w32 j))) (broadcast S12x128 15#32)

/-- Eight pieces of 128 columns fill 1024. -/
theorem zconcat : Shape.Concatenates ((List.ofFn fun n : Fin 8 => (⟨S12x128, fun _ => 0#32⟩ : (s : Shape) × (s.Idx → BitVec 32))).map (·.1)) S12x1024 1 := by
  decide +kernel

/-- The zero points of a block: the eight pieces end to end, converted. -/
def zeros (x3 : IVec S12x128 32) : FVec F S12x1024 .bf16 :=
  truncf .bf16 (sitofp .f32 (concatenate S12x1024 1 (List.ofFn fun n : Fin 8 => (⟨S12x128, zcol x3 (BitVec.ofNat 32 (16 * n.val))⟩ : (s : Shape) × (s.Idx → BitVec 32))) zconcat)) bitsLt_bf16_f32

/-- The zero points the body computes are `zeros` of their words' buffer. -/
theorem k0_pay48_eq (x0 : Vec F S128x1536 .bf16) (x1 : Vec F S192x1024 .i32) (x2 : Vec F S12x1024 .bf16) (x3 : Vec F S12x128 .i32) :
    k0_pay48 x0 x1 x2 x3 = zeros (F := F) x3 := by
  have e : View.ld x3 r0_0 = x3 := View.ld_unit_zero (by decide) _ _
  unfold k0_pay48; rw [e]; rfl

/-! ## The groups -/

/-- The 16 rows of words of each group lie inside the block. -/
theorem qrow_inb (n : Fin 12) : ∀ a, (![16 * n.val, 0] : Fin S192x1024.rank → ℕ) a + S16x1024.size a ≤ S192x1024.size a := by
  revert n; decide +kernel

/-- Row `n` of the twelve is a slice. -/
theorem grp_slices (n : Fin 12) : S12x1024.Slices ![n.val, 0] S1x1024 := by
  revert n; decide +kernel

/-- Group `n`: its 16 rows of words unpacked to 128 rows of codes, less its zero points, times its scales. -/
def wgrp (q : Vec F S192x1024 .i32) (s z : FVec F S12x1024 .bf16) (n : Fin 12) : FVec F S128x1024 .bf16 :=
  mulf (subf (sitofp .bf16 (shapeCast S128x1024 (andi (shrsi (broadcastTo S16x8x1024 (shapeCast S16x1x1024 (shapeCast S16x1x1024
        (View.ld q (Rect.unit (s := S192x1024) ![16 * n.val, 0] S16x1024.size (qrow_inb n))) shapeCasts_S16x1024_S16x1x1024)
          shapeCasts_S16x1x1024_S16x1x1024) broadcasts_S16x1x1024_S16x8x1024)
        (muli (iota .tc S16x8x1024 32 [1] iota_S16x8x1024_d1_w32) (broadcast S16x8x1024 4#32))) (broadcast S16x8x1024 15#32)) shapeCasts_S16x8x1024_S128x1024))
      (broadcastTo S128x1024 (extractStridedSlice S1x1024 ![n.val, 0] z (grp_slices n)) broadcasts_S1x1024_S128x1024))
    (broadcastTo S128x1024 (extractStridedSlice S1x1024 ![n.val, 0] s (grp_slices n)) broadcasts_S1x1024_S128x1024)

/-- Twelve groups of 128 rows fill 1536. -/
theorem wconcat (f : Fin 12 → FVec F S128x1024 .bf16) :
    Shape.Concatenates ((List.ofFn fun n : Fin 12 => (⟨S128x1024, f n⟩ : (s : Shape) × (s.Idx → F .bf16))).map (·.1)) S1536x1024 0 := by
  rw [List.map_ofFn]; show Shape.Concatenates (List.ofFn fun _ : Fin 12 => S128x1024) S1536x1024 0; decide +kernel

/-- The result's block: the activations times the twelve groups end to end. -/
def block (x : Vec F S128x1536 .bf16) (q : Vec F S192x1024 .i32) (s : FVec F S12x1024 .bf16) (z : IVec S12x128 32) : FVec F S128x1024 .bf16 :=
  truncf .bf16 (matmul dot_S128x1536_S1536x1024_S128x1024_1_0_0_1_n_n none (shapeCast S128x1536 x shapeCasts_S128x1536_S128x1536)
    (concatenate S1536x1024 0 (List.ofFn fun n : Fin 12 => (⟨S128x1024, wgrp q s (zeros z) n⟩ : (s : Shape) × (s.Idx → F .bf16))) (wconcat _))
    (constant S128x1024 .f32 0x00000000#32)) bitsLt_bf16_f32

/-- What the body leaves in the result's buffer is `block` of the four input buffers. -/
theorem out0_4_eq (x0 : Vec F S128x1536 .bf16) (x1 : Vec F S192x1024 .i32) (x2 : Vec F S12x1024 .bf16) (x3 : Vec F S12x128 .i32) :
    out0_4 x0 x1 x2 x3 = block x0 x1 x2 x3 := by
  have e0 : View.ld x0 r0_14 = x0 := View.ld_unit_zero (by decide) _ _
  have e2 : View.ld x2 r0_1 = x2 := View.ld_unit_zero (by decide) _ _
  unfold out0_4
  rw [View.canon_unit_zero (by decide), k0_pay48_eq, e0, e2]
  rfl

end Cert.KernelIdeal.Hand

end
-- ==== Proof.Spec.lean ====
/-
  What the kernel and the reference both compute, written once on plain functions of the coordinates: a column of the
  result is a sum over the 1536 inner positions of an activation times a dequantized weight, the weight being its 4-bit
  code less its group's 4-bit zero point, times its group's scale. Codes and zero points are nibbles of 32-bit words.
-/
module

public import Idealize.ShloMosaic.Lib.Pointwise

@[expose] public section

noncomputable section

namespace Cert.Spec

open Idealize.ShloMosaic

/-- Nibble `k` of a word (`k < 8`): the word shifted right by `4 k` bits, its low four bits kept. -/
def nib (w : BitVec 32) (k : ℕ) : BitVec 32 := IntOp.andi (IntOp.shrsi .vector w (BitVec.ofNat 32 (4 * k))) 15#32

/-- Nibble `k` of a word, as a number. -/
def code (w : BitVec 32) (k : ℕ) : EReal := (((nib w k).toInt : ℝ) : EReal)

/-- The dequantized weight at inner position `k` of a column: `q` the column's 192 words of codes, `s` its 12 scales,
    `z` the 12 words its zero points are in, at nibble `p`. -/
def weight (q : Fin 192 → BitVec 32) (s : Fin 12 → EReal) (z : Fin 12 → BitVec 32) (p : ℕ) (k : Fin 1536) : EReal :=
  (code (q ⟨k.val / 8, by omega⟩) (k.val % 8) - code (z ⟨k.val / 128, by omega⟩) p) * s ⟨k.val / 128, by omega⟩

/-- One element of the result: the row `x` of activations against the column of weights. -/
def colSum (x : Fin 1536 → EReal) (q : Fin 192 → BitVec 32) (s : Fin 12 → EReal) (z : Fin 12 → BitVec 32) (p : ℕ) : EReal :=
  ∑ k : Fin 1536, x k * weight q s z p k

end Cert.Spec

end
-- ==== Proof.ValueKernelIdeal.lean ====
/-
  The stored block at an index, over the ideal reals: element `(m, n)` is the column sum of the specification, of the
  activations' row `m`, the words' and scales' column `n`, and the zero points' word column `n / 8` at nibble `n % 8`.
-/
module

public import proofs.«01_k».proof.Proof.PayKernelIdeal
public import proofs.«01_k».proof.Proof.Spec

@[expose] public section

set_option maxRecDepth 16384

noncomputable section

namespace Cert.KernelIdeal.Hand

open Cert.KernelIdeal Cert.KernelIdeal.Gen Cert.Spec
open Idealize.ShloMosaic Idealize.ShloMosaic.TcCoe
open Idealize.ShloMosaic.Pointwise

/-- Lane `l` of the piece that begins at word `16 j` reads word `16 j + l / 8`. -/
theorem zIdx_eq : ∀ (j : Fin 8) (l : Fin 128), (zIdx (BitVec.ofNat 32 (16 * j.val)) (BitVec.ofNat 32 l.val)).toNat = 16 * j.val + l.val / 8 := by
  decide +kernel

/-- Lane `l` shifts its word by `4 (l % 8)`. -/
theorem zShift_eq : ∀ l : Fin 128, zShift (BitVec.ofNat 32 l.val) = BitVec.ofNat 32 (4 * (l.val % 8)) := by
  decide +kernel

/-- Four times a nibble's number, as a word. -/
theorem nibShift : ∀ p : Fin 8, IntOp.muli (BitVec.ofNat 32 p.val) 4#32 = BitVec.ofNat 32 (4 * p.val) := by
  decide +kernel

/-- A piece of the zero points at an index. -/
theorem zcol_apply (x3 : IVec S12x128 32) (j : Fin 8) (g : Fin 12) (l : Fin 128) :
    zcol x3 (BitVec.ofNat 32 (16 * j.val)) (ix2 g l) = nib (x3 (ix2 g ⟨16 * j.val + l.val / 8, by omega⟩)) (l.val % 8) := by
  pointwise [zcol]
  have h : (zIdx (BitVec.ofNat 32 (16 * j.val)) (BitVec.ofNat 32 l.val)).toNat % 128 = 16 * j.val + l.val / 8 := by
    rw [zIdx_eq]; omega
  simp only [h, zShift_eq]; rfl

/-- The zero points at an index. -/
theorem zeros_apply (x3 : IVec S12x128 32) (g : Fin 12) (n : Fin 1024) :
    zeros (F := Ideal) x3 (ix2 g n) = code (x3 (ix2 g ⟨n.val / 8, by omega⟩)) (n.val % 8) := by
  have e := concatenate_ofFn_apply (t := S12x1024) (s₁ := S12x128) 1 (fun j : Fin 8 => zcol x3 (BitVec.ofNat 32 (16 * j.val)))
    zconcat rfl 128 rfl (ix2 g n) ⟨n.val / 128, by omega⟩ rfl (ix2 g ⟨n.val % 128, by omega⟩) rfl
    (by intro b hb; match b with | ⟨0, _⟩ => rfl | ⟨1, _⟩ => exact absurd rfl hb)
  rw [zcol_apply] at e
  have h1 : 16 * (n.val / 128) + n.val % 128 / 8 = n.val / 8 := by omega
  have h2 : n.val % 128 % 8 = n.val % 8 := by omega
  simp only [h1, h2] at e
  unfold code; rw [← e]; rfl

/-- A group at an index: the dequantized weight. -/
theorem wgrp_apply (q : Vec Ideal S192x1024 .i32) (s : FVec Ideal S12x1024 .bf16) (z : FVec Ideal S12x1024 .bf16) (g : Fin 12) (k : Fin 128) (n : Fin 1024) :
    wgrp q s z g (ix2 k n) = (code (q (ix2 ⟨16 * g.val + k.val / 8, by omega⟩ n)) (k.val % 8) - z (ix2 g n)) * s (ix2 g n) := by
  pointwise [wgrp]
  rw [nibShift ⟨k.val % 8, by omega⟩]; rfl

/-- The twelve groups end to end, at an index. -/
theorem wcat_apply (q : Vec Ideal S192x1024 .i32) (s : FVec Ideal S12x1024 .bf16) (z : IVec S12x128 32) (k : Fin 1536) (n : Fin 1024) :
    concatenate S1536x1024 0 (List.ofFn fun g : Fin 12 => (⟨S128x1024, wgrp q s (zeros z) g⟩ : (s : Shape) × (s.Idx → Ideal .bf16))) (wconcat _) (ix2 k n)
      = weight (fun r => q (ix2 r n)) (fun g => s (ix2 g n)) (fun g => z (ix2 g ⟨n.val / 8, by omega⟩)) (n.val % 8) k := by
  rw [concatenate_ofFn_apply (t := S1536x1024) (s₁ := S128x1024) 0 (fun g : Fin 12 => wgrp q s (zeros z) g)
    (wconcat _) rfl 128 rfl (ix2 k n) ⟨k.val / 128, by omega⟩ rfl (ix2 ⟨k.val % 128, by omega⟩ n) rfl
    (by intro b hb; match b with | ⟨0, _⟩ => exact absurd rfl hb | ⟨1, _⟩ => rfl), wgrp_apply, zeros_apply]
  have h1 : 16 * (k.val / 128) + k.val % 128 / 8 = k.val / 8 := by omega
  have h2 : k.val % 128 % 8 = k.val % 8 := by omega
  simp only [h1, h2]; rfl

/-- A product from zero, rounded, at an index. -/
theorem product_apply (x : FVec Ideal S128x1536 .bf16) (w : FVec Ideal S1536x1024 .bf16) (m : Fin 128) (n : Fin 1024) :
    (truncf .bf16 (matmul (φ₁ := .bf16) dot_S128x1536_S1536x1024_S128x1024_1_0_0_1_n_n none (shapeCast S128x1536 x shapeCasts_S128x1536_S128x1536) w
      (constant S128x1024 .f32 0x00000000#32)) bitsLt_bf16_f32 : FVec Ideal S128x1024 .bf16) (ix2 m n) = ∑ k : Fin 1536, x (ix2 m k) * w (ix2 k n) := by
  pointwise

/-- The stored block at an index. -/
theorem block_apply (x : Vec Ideal S128x1536 .bf16) (q : Vec Ideal S192x1024 .i32) (s : FVec Ideal S12x1024 .bf16) (z : IVec S12x128 32) (m : Fin 128) (n : Fin 1024) :
    block x q s z (ix2 m n) = colSum (fun k => x (ix2 m k)) (fun r => q (ix2 r n)) (fun g => s (ix2 g n)) (fun g => z (ix2 g ⟨n.val / 8, by omega⟩)) (n.val % 8) := by
  unfold block colSum
  rw [product_apply]
  exact Finset.sum_congr rfl fun k _ => by rw [wcat_apply]

end Cert.KernelIdeal.Hand

end
-- ==== Proof.RunKernelIdeal.lean ====
/-
  The ideal kernel's run: what the result's array holds at the end, in closed form. The last block overhangs the arrays
  (30592 columns in blocks of 1024); a column inside the array depends on words and scales inside it alone, so what the
  buffers hold past the arrays' ends reaches nothing that is written back.
-/
module

public import proofs.«01_k».proof.Defs
public import proofs.«01_k».proof.Proof.ValueKernelIdeal
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RDat)
open Idealize.ShloMosaic.Pointwise

local notation "𝕄" => MT nD τ sig Unit (Elt Ideal) ℕ (UR sig nD τ) ℕ

variable (m : (ℓ : Loc nD τ sig) → Buf (Elt Ideal) ℓ) (ρ : Dev nD → PrngReg)

/-! ## The blocks -/

/-- Where the windows' blocks are at each point: window 0's is the array, the others' go one block of columns a point. -/
theorem index0_0 : ∀ t : Fin cfg0.N, win0_0.index t = ![0, 0] := by decide +kernel
/-- The words' block at each point. -/
theorem index0_1 : ∀ t : Fin cfg0.N, win0_1.index t = ![0, t.val] := by decide +kernel
/-- The scales' block at each point. -/
theorem index0_2 : ∀ t : Fin cfg0.N, win0_2.index t = ![0, t.val] := by decide +kernel
/-- The zero points' block at each point. -/
theorem index0_3 : ∀ t : Fin cfg0.N, win0_3.index t = ![0, t.val] := by decide +kernel
/-- The result's block at each point. -/
theorem index0_4 : ∀ t : Fin cfg0.N, win0_4.index t = ![0, t.val] := by decide +kernel
/-- How much of each block is inside its array. -/
theorem xsize0_1 : ∀ t : Fin cfg0.N, win0_1.xsize (grid0.coords t) = ![192, min 1024 (30592 - 1024 * t.val)] := by decide +kernel
/-- The same for the scales. -/
theorem xsize0_2 : ∀ t : Fin cfg0.N, win0_2.xsize (grid0.coords t) = ![12, min 1024 (30592 - 1024 * t.val)] := by decide +kernel
/-- The same for the zero points. -/
theorem xsize0_3 : ∀ t : Fin cfg0.N, win0_3.xsize (grid0.coords t) = ![12, min 128 (3824 - 128 * t.val)] := by decide +kernel
/-- The same for the result. -/
theorem xsize0_4 : ∀ t : Fin cfg0.N, win0_4.xsize (grid0.coords t) = ![128, min 1024 (30592 - 1024 * t.val)] := by decide +kernel

/-- Window 0's block at an index. -/
theorem iblk0_apply (c : Dev nD) (t : Fin cfg0.N) (r : Fin 128) (k : Fin 1536) :
    (iblk m c 0 t : S128x1536.Idx → Ideal .bf16) (ix2 r k) = (V m c main_v0 : S128x1536.Idx → Ideal .bf16) (ix2 r k) := by
  blk_simp [iblk]
  refine congrArg (V m c main_v0) ?_
  funext a; match a with
  | ⟨0, _⟩ => apply Fin.ext; blk_simp [index0_0 t]
  | ⟨1, _⟩ => apply Fin.ext; blk_simp [index0_0 t]

/-- Window 1's buffer at an index inside the array, whatever it holds past the array's end. -/
theorem fill1_apply (c : Dev nD) (t : Fin cfg0.N) (d) (r : Fin 192) (n : Fin 1024) (h : 1024 * t.val + n.val < 30592) :
    ((cfg0.win 1).fill (cfg0.grid.coords t) d (iblk m c 1 t) : S192x1024.Idx → BitVec 32) (ix2 r n)
      = (V m c main_arg1 : S192x30592.Idx → BitVec 32) (ix2 r ⟨1024 * t.val + n.val, h⟩) := by
  have hm : win0_1.moved (grid0.coords t) (ix2 r n) = true := (win0_1.moved_iff _ _).mpr fun a => by
    rw [xsize0_1]; match a with
    | ⟨0, _⟩ => exact r.isLt
    | ⟨1, _⟩ => show n.val < min 1024 (30592 - 1024 * t.val); omega
  refine (dif_pos hm).trans ?_
  blk_simp [iblk]
  refine congrArg (V m c main_arg1) ?_
  funext a; match a with
  | ⟨0, _⟩ => apply Fin.ext; blk_simp [index0_1 t]
  | ⟨1, _⟩ => apply Fin.ext; blk_simp [index0_1 t]; exact congrArg (· + n.val) (Nat.mul_comm _ _)

/-- Window 2's buffer at an index inside the array, whatever it holds past the array's end. -/
theorem fill2_apply (c : Dev nD) (t : Fin cfg0.N) (d) (r : Fin 12) (n : Fin 1024) (h : 1024 * t.val + n.val < 30592) :
    ((cfg0.win 2).fill (cfg0.grid.coords t) d (iblk m c 2 t) : S12x1024.Idx → Ideal .bf16) (ix2 r n)
      = (V m c main_arg2 : S12x30592.Idx → Ideal .bf16) (ix2 r ⟨1024 * t.val + n.val, h⟩) := by
  have hm : win0_2.moved (grid0.coords t) (ix2 r n) = true := (win0_2.moved_iff _ _).mpr fun a => by
    rw [xsize0_2]; match a with
    | ⟨0, _⟩ => exact r.isLt
    | ⟨1, _⟩ => show n.val < min 1024 (30592 - 1024 * t.val); omega
  refine (dif_pos hm).trans ?_
  blk_simp [iblk]
  refine congrArg (V m c main_arg2) ?_
  funext a; match a with
  | ⟨0, _⟩ => apply Fin.ext; blk_simp [index0_2 t]
  | ⟨1, _⟩ => apply Fin.ext; blk_simp [index0_2 t]; exact congrArg (· + n.val) (Nat.mul_comm _ _)

/-- Window 3's buffer at an index inside the array, whatever it holds past the array's end. -/
theorem fill3_apply (c : Dev nD) (t : Fin cfg0.N) (d) (r : Fin 12) (n : Fin 128) (h : 128 * t.val + n.val < 3824) :
    ((cfg0.win 3).fill (cfg0.grid.coords t) d (iblk m c 3 t) : S12x128.Idx → BitVec 32) (ix2 r n)
      = (V m c main_arg3 : S12x3824.Idx → BitVec 32) (ix2 r ⟨128 * t.val + n.val, h⟩) := by
  have hm : win0_3.moved (grid0.coords t) (ix2 r n) = true := (win0_3.moved_iff _ _).mpr fun a => by
    rw [xsize0_3]; match a with
    | ⟨0, _⟩ => exact r.isLt
    | ⟨1, _⟩ => show n.val < min 128 (3824 - 128 * t.val); omega
  refine (dif_pos hm).trans ?_
  blk_simp [iblk]
  refine congrArg (V m c main_arg3) ?_
  funext a; match a with
  | ⟨0, _⟩ => apply Fin.ext; blk_simp [index0_3 t]
  | ⟨1, _⟩ => apply Fin.ext; blk_simp [index0_3 t]; exact congrArg (· + n.val) (Nat.mul_comm _ _)

/-! ## The result -/

/-- What the result's array ends holding: each element the column sum of the specification, over the arrays the region
    finds — the reshaped activations, the words, the scales and the zero points' words. -/
def G (c : Dev nD) : S128x30592.Idx → EReal := fun i =>
  colSum (fun k => (V m c main_v0 : S128x1536.Idx → EReal) (ix2 (i 0) k)) (fun r => (V m c main_arg1 : S192x30592.Idx → BitVec 32) (ix2 r (i 1)))
    (fun g => (V m c main_arg2 : S12x30592.Idx → EReal) (ix2 g (i 1)))
    (fun g => (V m c main_arg3 : S12x3824.Idx → BitVec 32) (ix2 g ⟨(i 1).val / 8, by have h : (i 1).val < 30592 := (i 1).isLt; omega⟩)) ((i 1).val % 8)

/-- Block `t` of it, the part inside the array. -/
def gblk (c : Dev nD) (t : Fin cfg0.N) : ((cfg0.win 4).xblock (cfg0.grid.coords t)).Idx → Elt Ideal (cfg0.win 4).elt :=
  ((cfg0.win 4).blk t).view.read (Elt Ideal) (G m c)

/-- The stored block at an index inside the array, whatever the buffers hold past the arrays' ends. -/
theorem out_apply (c : Dev nD) (t : Fin cfg0.N) (d1 d2 d3) (r : Fin 128) (n : Fin 1024) (h : 1024 * t.val + n.val < 30592) :
    out0_4 (F := Ideal) (iblk m c 0 t) ((cfg0.win 1).fill (cfg0.grid.coords t) d1 (iblk m c 1 t)) ((cfg0.win 2).fill (cfg0.grid.coords t) d2 (iblk m c 2 t))
        ((cfg0.win 3).fill (cfg0.grid.coords t) d3 (iblk m c 3 t)) (ix2 r n)
      = G m c (ix2 r ⟨1024 * t.val + n.val, h⟩) := by
  rw [out0_4_eq, block_apply]
  have h3 : 128 * t.val + n.val / 8 < 3824 := by omega
  have e0 : ∀ k, (iblk m c 0 t : S128x1536.Idx → Ideal .bf16) (ix2 r k) = _ := iblk0_apply m c t r
  have e1 : ∀ k, ((cfg0.win 1).fill (cfg0.grid.coords t) d1 (iblk m c 1 t) : S192x1024.Idx → BitVec 32) (ix2 k n) = _ := fun k => fill1_apply m c t d1 k n h
  have e2 : ∀ k, ((cfg0.win 2).fill (cfg0.grid.coords t) d2 (iblk m c 2 t) : S12x1024.Idx → Ideal .bf16) (ix2 k n) = _ := fun k => fill2_apply m c t d2 k n h
  have e3 : ∀ k, ((cfg0.win 3).fill (cfg0.grid.coords t) d3 (iblk m c 3 t) : S12x128.Idx → BitVec 32) (ix2 k ⟨n.val / 8, by omega⟩) = _ :=
    fun k => fill3_apply m c t d3 k ⟨n.val / 8, by omega⟩ h3
  have p1 : (1024 * t.val + n.val) / 8 = 128 * t.val + n.val / 8 := by omega
  have p2 : (1024 * t.val + n.val) % 8 = n.val % 8 := by omega
  unfold G
  refine Eq.trans (congrFun (congr (congr (congr (congrArg colSum (funext e0)) (funext e1)) (funext e2)) (funext e3)) (n.val % 8)) ?_
  simp only [ix2_0, ix2_1, p1, p2]

/-- So the stored block, cut to the part inside the array, is `gblk`. -/
theorem cut_out (c : Dev nD) (t : Fin cfg0.N) (d1 d2 d3) :
    (cfg0.win 4).cut (cfg0.grid.coords t) (out0_4 (F := Ideal) (iblk m c 0 t) ((cfg0.win 1).fill (cfg0.grid.coords t) d1 (iblk m c 1 t))
        ((cfg0.win 2).fill (cfg0.grid.coords t) d2 (iblk m c 2 t)) ((cfg0.win 3).fill (cfg0.grid.coords t) d3 (iblk m c 3 t)))
      = gblk m c t := by
  funext y
  have hy0 : (y 0).val < 128 := Nat.lt_of_lt_of_eq (y 0).isLt (congrFun (xsize0_4 t) 0)
  have hy1 : (y 1).val < min 1024 (30592 - 1024 * t.val) := Nat.lt_of_lt_of_eq (y 1).isLt (congrFun (xsize0_4 t) 1)
  have hN : 1024 * t.val + (y 1).val < 30592 := by omega
  have e : (cfg0.win 4).xinj (cfg0.grid.coords t) y = (ix2 ⟨(y 0).val, hy0⟩ ⟨(y 1).val, by omega⟩ : S128x1024.Idx) := by
    funext a; match a with | ⟨0, _⟩ => rfl | ⟨1, _⟩ => rfl
  show out0_4 (F := Ideal) _ _ _ _ ((cfg0.win 4).xinj (cfg0.grid.coords t) y) = _
  rw [e, out_apply m c t d1 d2 d3 _ _ hN]
  unfold gblk
  blk_simp
  refine congrArg (G m c) ?_
  funext a; match a with
  | ⟨0, _⟩ => apply Fin.ext; blk_simp [index0_4 t]; rfl
  | ⟨1, _⟩ => apply Fin.ext; blk_simp [index0_4 t]; exact congrArg (· + (y 1).val) (Nat.mul_comm _ _)

/-- Filling it with `gblk` changes nothing. -/
theorem fill_out (c : Dev nD) (t : Fin cfg0.N) (d1 d2 d3) :
    (cfg0.win 4).fill (cfg0.grid.coords t) (out0_4 (F := Ideal) (iblk m c 0 t) ((cfg0.win 1).fill (cfg0.grid.coords t) d1 (iblk m c 1 t))
        ((cfg0.win 2).fill (cfg0.grid.coords t) d2 (iblk m c 2 t)) ((cfg0.win 3).fill (cfg0.grid.coords t) d3 (iblk m c 3 t))) (gblk m c t)
      = out0_4 (F := Ideal) (iblk m c 0 t) ((cfg0.win 1).fill (cfg0.grid.coords t) d1 (iblk m c 1 t))
        ((cfg0.win 2).fill (cfg0.grid.coords t) d2 (iblk m c 2 t)) ((cfg0.win 3).fill (cfg0.grid.coords t) d3 (iblk m c 3 t)) := by
  rw [← cut_out m c t d1 d2 d3]; exact (cfg0.win 4).fill_cut _ _

/-! ## The proof data and the body's obligation -/

/-- The proof data: the arrays as the region finds them; after the body each input's buffer holds its block, filled out
    past the array's end with words nothing names; the result's holds the block of `G`, likewise filled out. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => (cfg0.win 3).fill (cfg0.grid.coords t) (fun _ => Classical.arbitrary _) (iblk m c 3 t)
    | ⟨4, _⟩ => (cfg0.win 4).fill (cfg0.grid.coords t) (fun _ => Classical.arbitrary _) (gblk m c t)
  Φ _ := Pipeline.ΦA spec0 c
  q _ := fullShare
  owed _ := 0

/-- The contents of each window's array are the memory's. -/
theorem A_eq (c : Dev nD) (w : Fin cfg0.W) : (dats m 0 c).A w = V m c (Pipeline.arrRef spec0 w) := by
  dsimp only [dats]

/-- The body leaves the activations' buffer as it found it. -/
theorem after0_0 (c : Dev nD) (t : Fin cfg0.N) : (dats m 0 c).after 0 t = iblk m c 0 t := by dsimp only [dats]

/-- What the body finds in each input's buffer: its block, and past the array's end anything (`d`). -/
theorem before0_0 (c : Dev nD) (t : Fin cfg0.N) (d) : (dats m 0 c).before 0 t d = iblk m c 0 t :=
  before0_0_of m (dats m 0 c) (A_eq m c 0) (after0_0 m c) t d
/-- What it finds in the words' buffer. -/
theorem before0_1 (c : Dev nD) (t : Fin cfg0.N) (d) :
    (dats m 0 c).before 1 t d = (cfg0.win 1).fill (cfg0.grid.coords t) d (iblk m c 1 t) := by
  unfold Dat.before; rw [if_pos (fetch0_1 t)]; rfl
/-- What it finds in the scales' buffer. -/
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl
/-- What it finds in the zero points' buffer. -/
theorem before0_3 (c : Dev nD) (t : Fin cfg0.N) (d) :
    (dats m 0 c).before 3 t d = (cfg0.win 3).fill (cfg0.grid.coords t) d (iblk m c 3 t) := by
  unfold Dat.before; rw [if_pos (fetch0_3 t)]; rfl

/-- What the body leaves on the part of each input's buffer inside the array: the block. -/
theorem cut_after0_1 (c : Dev nD) (t : Fin cfg0.N) :
    (cfg0.win 1).cut (cfg0.grid.coords t) ((dats m 0 c).after 1 t) = iblk m c 1 t := (cfg0.win 1).cut_fill _ _ _
/-- The same for the scales. -/
theorem cut_after0_2 (c : Dev nD) (t : Fin cfg0.N) :
    (cfg0.win 2).cut (cfg0.grid.coords t) ((dats m 0 c).after 2 t) = iblk m c 2 t := (cfg0.win 2).cut_fill _ _ _
/-- The same for the zero points. -/
theorem cut_after0_3 (c : Dev nD) (t : Fin cfg0.N) :
    (cfg0.win 3).cut (cfg0.grid.coords t) ((dats m 0 c).after 3 t) = iblk m c 3 t := (cfg0.win 3).cut_fill _ _ _

/-- The part of the result's buffer inside the array is the result's block. -/
theorem cut_after0_4 (c : Dev nD) (t : Fin cfg0.N) :
    (cfg0.win 4).cut (cfg0.grid.coords t) ((dats m 0 c).after 4 t) = gblk m c t := (cfg0.win 4).cut_fill _ _ _

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: each input's buffer at its block on the part inside the array, the result's at `G`'s. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_kernel c Set.univ (grid0.coords t) _ _ _ _ _ _ _ _ _ _ (iblk m c 0 t)
    ((cfg0.win 1).fill (cfg0.grid.coords t) d1 (iblk m c 1 t)) ((cfg0.win 2).fill (cfg0.grid.coords t) d2 (iblk m c 2 t))
    ((cfg0.win 3).fill (cfg0.grid.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; rw [cut_after0_1]; iexact H1
  isplitl [H2]; · iexists d2; rw [cut_after0_2]; iexact H2
  isplitl [H3]; · iexists d3; rw [cut_after0_3]; iexact H3
  iexists out0_4 (F := Ideal) (iblk m c 0 t) ((cfg0.win 1).fill (cfg0.grid.coords t) d1 (iblk m c 1 t)) ((cfg0.win 2).fill (cfg0.grid.coords t) d2 (iblk m c 2 t)) ((cfg0.win 3).fill (cfg0.grid.coords t) d3 (iblk m c 3 t))
  rw [cut_after0_4, fill_out]
  iexact H4

/-- The library's body obligation, at every point. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The run: every weakly fair execution of @main terminates, the staged arrays ending as the library says, every other
    buffer as the reshape after the region leaves it, every semaphore counter at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The result's array ends holding `G`: the thirty blocks, the last cut at the array's end, cover it. -/
theorem arrAt_eq (c : Dev nD) : (dats m 0 c).arrAt 4 cfg0.N = G m c := by
  refine (dats m 0 c).arrAt_eq_of_covers 4 (G m c) (by decide +kernel) fun t _ y => ?_
  have e := congrFun (cut_after0_4 m c t) y
  unfold gblk at e
  blk_simp at e ⊢
  exact e

/-- The final result: `G` reshaped. -/
theorem tail_main_v2 (c : Dev nD) :
    Pipeline.afterTail₀ cfgs (dats m) 0 (V0 m) [hostOps1] c main_v2 = shapeCast S128x1x30592 (G m c) shapeCasts_S128x30592_S128x1x30592 := by
  unfold Pipeline.afterTail₀
  show StableHlo.after hostOps1 _ (Proc.devRef .tc main_v2) = _
  rw [hostOps1, StableHlo.after_cons, StableHlo.after_nil, StableHlo.reshape_result]
  show shapeCast S128x1x30592 (Pipeline.withArrays _ c _ _ (Proc.devRef .tc (Pipeline.arrRef spec0 4))) _ = _
  rw [Pipeline.withArrays_arr _ launch0.win.arr_inj]
  exact congrArg (fun v => shapeCast S128x1x30592 v shapeCasts_S128x30592_S128x1x30592) (arrAt_eq m c)

/-- Every run of the ideal kernel's @main ends with the final result at `G` reshaped, the arguments as they were and every
    counter at zero. -/
theorem run_value : θ_run defs (onTc (τ := τ) (main (F := Ideal))) ⟨m, fun _ => 0, ρ⟩ (fun r => (∀ c : Dev nD,
      r.2.mem ((c.tc : Thread nD τ).loc main_v2) = shapeCast S128x1x30592 (G m c) shapeCasts_S128x30592_S128x1x30592
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run defs _ _).mono (fun r h => ⟨fun c => ⟨?_, h.2.1 c⟩, h.2.2⟩)
    (θ_run_and (run_main m ρ) (θ_run_and (frame_of m ρ (dats m) (A_eq m) ((θ_run defs _ _).mono (fun _ h => h.1) (run_main m ρ)))
      ((θ_run defs _ _).mono (fun _ h => h.2) (run_main m ρ))))
  exact ((h.1.1 c).2 main_v2 (Pipeline.mem_restRefs_of main_v2 (by decide) (by decide))).trans (tail_main_v2 m c)

/-- The reshaped activations at an index. -/
theorem V_main_v0_apply (c : Dev nD) (r : Fin 128) (k : Fin 1536) :
    (V m c main_v0 : S128x1536.Idx → EReal) (ix2 r k) = (m ((c : Thread nD τ).loc main_arg0) : S128x1x1536.Idx → EReal) (ix3 r 0 k) := by
  have e : (V m c main_v0 : S128x1536.Idx → EReal)
      = shapeCast S128x1536 (m ((c : Thread nD τ).loc main_arg0) : S128x1x1536.Idx → EReal) shapeCasts_S128x1x1536_S128x1536 := by
    show StableHlo.after hostOps0 _ (Proc.devRef .tc main_v0) = _
    rw [hostOps0, StableHlo.after_cons, StableHlo.after_nil, StableHlo.reshape_result]
    rfl
  rw [e]
  pointwise

/-- The final result in closed form, over the arguments. -/
theorem result_apply (c : Dev nD) (r : Fin 128) (n : Fin 30592) :
    (shapeCast S128x1x30592 (G m c) shapeCasts_S128x30592_S128x1x30592 : S128x1x30592.Idx → EReal) (ix3 r 0 n)
      = colSum (fun k => (m ((c : Thread nD τ).loc main_arg0) : S128x1x1536.Idx → EReal) (ix3 r 0 k))
          (fun q => (m ((c : Thread nD τ).loc main_arg1) : S192x30592.Idx → BitVec 32) (ix2 q n))
          (fun g => (m ((c : Thread nD τ).loc main_arg2) : S12x30592.Idx → EReal) (ix2 g n))
          (fun g => (m ((c : Thread nD τ).loc main_arg3) : S12x3824.Idx → BitVec 32) (ix2 g ⟨n.val / 8, by omega⟩)) (n.val % 8) := by
  have e : (shapeCast S128x1x30592 (G m c) shapeCasts_S128x30592_S128x1x30592 : S128x1x30592.Idx → EReal) (ix3 r 0 n) = G m c (ix2 r n) := by
    pointwise
  rw [e]
  unfold G
  simp only [ix2_0, ix2_1]
  exact congrFun (congr (congr (congr (congrArg colSum (funext fun k => V_main_v0_apply m c r k)) (funext fun q => congrFun (V_main_arg1 m c) (ix2 q n)))
    (funext fun g => congrFun (V_main_arg2 m c) (ix2 g n))) (funext fun g => congrFun (V_main_arg3 m c) (ix2 g ⟨n.val / 8, by omega⟩))) (n.val % 8)

end Cert.KernelIdeal.Hand

namespace Cert.Proof

open Cert.KernelIdeal Cert.KernelIdeal.Gen Cert.KernelIdeal.Hand
open Idealize.ShloMosaic Idealize.ShloMosaic.TcCoe

/-- The frame claim of `KernelIdeal`: every run terminates with the four arguments unchanged and every counter at zero. -/
theorem frame_KernelIdeal : Cert.quiescent_KernelIdeal := fun m ρ _ =>
  (θ_run defs _ _).mono (fun _ h => ⟨fun c => (h.1 c).2, h.2⟩) (run_value m ρ)

end Cert.Proof

end
-- ==== Proof.ValueReferenceIdeal.lean ====
/-
  The reference over the ideal reals: its result at an index is the specification's column sum. The reference unpacks its
  words nibble by nibble — all the words' nibbles 0 first, then all their nibbles 1, and so on — and reorders the
  activations to match; its sum over the inner positions is the specification's in another order.
-/
module

public import proofs.«01_k».proof.Defs
public import proofs.«01_k».proof.Proof.Gen.ReferenceIdeal.Run
public import proofs.«01_k».proof.Proof.Spec
public import Idealize.ShloMosaic.Lib.Quiescent

@[expose] public section

set_option maxRecDepth 16384

noncomputable section

namespace Cert.ReferenceIdeal.Hand

open Cert.ReferenceIdeal Cert.ReferenceIdeal.Gen Cert.Spec
open Idealize.ShloMosaic Idealize.ShloMosaic.TcCoe
open Idealize.ShloMosaic.Pointwise
open Idealize.SL.Sem

variable (a0 : FVec Ideal S128x1x1536 .bf16) (a1 : IVec S192x30592 32) (a2 : FVec Ideal S12x30592 .bf16) (a3 : IVec S12x3824 32)

/-! ## The reference's terms -/

/-- The zero points: each word's eight nibbles, side by side. -/
def refZeros : FVec Ideal S12x30592 .bf16 :=
  sitofp .bf16 (shapeCast S12x30592 (andi (Host.shrsi (broadcastInDim S12x3824x8 ![0, 1, 2] bcast_S12x3824x1_S12x3824x8_0_1_2 (broadcastInDim S12x3824x1 ![0, 1] bcast_S12x3824_S12x3824x1_0_1 a3)) (broadcastInDim S12x3824x8 ![0, 1, 2] bcast_S1x1x8_S12x3824x8_0_1_2 (broadcastInDim S1x1x8 ![2] bcast_S8_S1x1x8_2 (muli (broadcastInDim S8 ![] bcast_S_S8 (constantI S_ 32 4#32)) (iotaInDim S8 32 0))))) (broadcastInDim S12x3824x8 ![] bcast_S_S12x3824x8 (constantI S_ 32 15#32))) shapeCasts_S12x3824x8_S12x30592)

/-- The dequantized weights, nibble by nibble. -/
def refWeights (z : FVec Ideal S12x30592 .bf16) : FVec Ideal S1536x30592 .bf16 :=
  shapeCast S1536x30592 (mulf (subf (shapeCast S8x12x16x30592 (sitofp .bf16 (andi (Host.shrsi (broadcastInDim S8x192x30592 ![0, 1, 2] bcast_S1x192x30592_S8x192x30592_0_1_2 (broadcastInDim S1x192x30592 ![1, 2] bcast_S192x30592_S1x192x30592_1_2 a1)) (broadcastInDim S8x192x30592 ![0, 1, 2] bcast_S8x1x1_S8x192x30592_0_1_2 (broadcastInDim S8x1x1 ![0] bcast_S8_S8x1x1_0 (muli (broadcastInDim S8 ![] bcast_S_S8 (constantI S_ 32 4#32)) (iotaInDim S8 32 0))))) (broadcastInDim S8x192x30592 ![] bcast_S_S8x192x30592 (constantI S_ 32 15#32)))) shapeCasts_S8x192x30592_S8x12x16x30592) (broadcastInDim S8x12x16x30592 ![0, 1, 2, 3] bcast_S1x12x1x30592_S8x12x16x30592_0_1_2_3 (broadcastInDim S1x12x1x30592 ![1, 3] bcast_S12x30592_S1x12x1x30592_1_3 z))) (broadcastInDim S8x12x16x30592 ![0, 1, 2, 3] bcast_S1x12x1x30592_S8x12x16x30592_0_1_2_3 (broadcastInDim S1x12x1x30592 ![1, 3] bcast_S12x30592_S1x12x1x30592_1_3 a2))) shapeCasts_S8x12x16x30592_S1536x30592

/-- The activations in the weights' order. -/
def refX : FVec Ideal S128x1536 .bf16 :=
  shapeCast S128x1536 (transpose S128x8x192 [0, 2, 1] (shapeCast S128x192x8 a0 shapeCasts_S128x1x1536_S128x192x8) transposes_S128x192x8_S128x8x192_0_2_1) shapeCasts_S128x8x192_S128x1536

/-- The reference's result. -/
def refOut : FVec Ideal S128x1x30592 .bf16 :=
  shapeCast S128x1x30592 (truncf .bf16 (Host.dotGeneral dot_S128x1536_S1536x30592_S128x30592_1_0_0_1_n_n none (refX a0) (refWeights a1 a2 (refZeros a3))) bitsLt_bf16_f32) shapeCasts_S128x30592_S128x1x30592

/-! ## The terms at an index -/

/-- Four times a nibble's number, as a word. -/
theorem nibShift : ∀ p : Fin 8, IntOp.muli 4#32 (BitVec.ofNat 32 p.val) = BitVec.ofNat 32 (4 * p.val) := by
  decide +kernel

/-- Nibble `p` as the reference takes it. -/
theorem nib_host (w : BitVec 32) (p : Fin 8) : IntOp.andi (IntOp.shrsi .host w (IntOp.muli 4#32 (BitVec.ofNat 32 p.val))) 15#32 = nib w p.val := by
  rw [nibShift]
  have h : (BitVec.ofNat 32 (4 * p.val)).toNat < 32 := by revert p; decide +kernel
  unfold nib IntOp.shrsi
  rw [if_pos h, if_pos h]

/-- A nibble as the reference takes it, read as a real. -/
theorem sitofp_nib_host (w : BitVec 32) (p : Nat) (hp : p < 8) :
    FloatOps.sitofp (F := Ideal) FTy.bf16 (IntOp.andi (IntOp.shrsi .host w (IntOp.muli 4#32 (BitVec.ofNat 32 p))) 15#32) = code w p := by
  rw [nib_host w ⟨p, hp⟩]
  rfl

/-- The zero point of group `g` and column `n` is nibble `n % 8` of word `n / 8`. -/
theorem refZeros_apply (g : Fin 12) (n : Fin 30592) :
    refZeros a3 (ix2 g n) = code (a3 (ix2 g ⟨n.val / 8, by omega⟩)) (n.val % 8) := by
  pointwise [refZeros]
  exact sitofp_nib_host _ _ (by omega)

/-- The weight in row `k`: nibble `k / 192` of word `k % 192`, less its group's zero point, times its group's scale. -/
theorem refWeights_apply (z : FVec Ideal S12x30592 .bf16) (k : Fin 1536) (n : Fin 30592) :
    refWeights a1 a2 z (ix2 k n) = (code (a1 (ix2 ⟨k.val % 192, by omega⟩ n)) (k.val / 192) - z (ix2 ⟨k.val % 192 / 16, by omega⟩ n)) * a2 (ix2 ⟨k.val % 192 / 16, by omega⟩ n) := by
  have h1 : k.val % 192 / 16 * 16 + k.val % 16 = k.val % 192 := by omega
  have h2 : k.val / 16 % 12 = k.val % 192 / 16 := by omega
  pointwise [refWeights]
  rw [sitofp_nib_host _ _ (by omega)]
  simp only [h2, h1]

/-- The activation at position `k` of the reference's order. -/
theorem refX_apply (r : Fin 128) (k : Fin 1536) :
    refX a0 (ix2 r k) = a0 (ix3 r 0 ⟨k.val % 192 * 8 + k.val / 192, by omega⟩) := by
  pointwise [refX]

/-- The result is the product of the activations and the weights. -/
theorem refOut_product (r : Fin 128) (n : Fin 30592) :
    refOut a0 a1 a2 a3 (ix3 r 0 n) = ∑ k : Fin 1536, refX a0 (ix2 r k) * refWeights a1 a2 (refZeros a3) (ix2 k n) := by
  pointwise [refOut]

/-! ## The two orders of the inner positions -/

/-- Position `k` of the reference's order is nibble `k / 192` of word `k % 192`, the specification's position
    `8 * (k % 192) + k / 192`. -/
def nibbleOrder : Fin 1536 ≃ Fin 1536 where
  toFun k := ⟨k.val % 192 * 8 + k.val / 192, by omega⟩
  invFun k := ⟨k.val % 8 * 192 + k.val / 8, by omega⟩
  left_inv k := Fin.ext (by simp only; omega)
  right_inv k := Fin.ext (by simp only; omega)

/-- The reference's result at row `r` and column `n` is the specification's column sum. -/
theorem refOut_apply (r : Fin 128) (n : Fin 30592) :
    refOut a0 a1 a2 a3 (ix3 r 0 n) = colSum (fun k => a0 (ix3 r 0 k)) (fun q => a1 (ix2 q n)) (fun g => a2 (ix2 g n))
      (fun g => a3 (ix2 g ⟨n.val / 8, by omega⟩)) (n.val % 8) := by
  rw [refOut_product]
  unfold colSum
  refine Fintype.sum_equiv nibbleOrder _ _ fun k => ?_
  have h1 : (k.val % 192 * 8 + k.val / 192) / 8 = k.val % 192 := by omega
  have h2 : (k.val % 192 * 8 + k.val / 192) % 8 = k.val / 192 := by omega
  have h3 : (k.val % 192 * 8 + k.val / 192) / 128 = k.val % 192 / 16 := by omega
  rw [refX_apply, refWeights_apply, refZeros_apply]
  simp only [nibbleOrder, Equiv.coe_fn_mk, weight, h1, h2, h3]

/-! ## The run -/

/-- The reference ends with its result in place and its arguments as they were. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Value.run m ρ

end Cert.ReferenceIdeal.Hand

namespace Cert.Proof

open Idealize.ShloMosaic Idealize.SL.Sem

/-- The reference over the ideal reals runs to its end, leaves its arguments unchanged and its semaphores at zero. -/
theorem frame_ReferenceIdeal : Cert.quiescent_ReferenceIdeal := fun m ρ _ =>
  (θ_run _ _ _).mono (fun r h => ⟨fun c => (h c).2, sem_eq_zero_of_no_sems (by decide) _⟩) (Cert.ReferenceIdeal.Hand.run_value m ρ)

end Cert.Proof

end
-- ==== Proof.Algebraic.lean ====
/-
  The kernel and the reference agree over the ideal reals: at every index of the result both are the specification's
  column sum of the same row of activations and the same column of words, scales and zero points.
-/
module

public import proofs.«01_k».proof.Defs
public import proofs.«01_k».proof.Proof.RunKernelIdeal
public import proofs.«01_k».proof.Proof.ValueReferenceIdeal

@[expose] public section

set_option maxRecDepth 16384

noncomputable section

namespace Cert.Proof

open Idealize.ShloMosaic Idealize.SL.Sem

/-- The kernel's result is the reference's term of the same arguments. -/
theorem result_eq (m : (ℓ : Loc Cert.KernelIdeal.nD Cert.KernelIdeal.τ Cert.KernelIdeal.sig) → Buf (Elt Ideal) ℓ) (c : Dev Cert.KernelIdeal.nD) :
    Cert.ReferenceIdeal.Hand.refOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = shapeCast Cert.KernelIdeal.S128x1x30592 (Cert.KernelIdeal.Hand.G m c) Cert.KernelIdeal.Gen.shapeCasts_S128x30592_S128x1x30592 := by
  funext i
  have hi : i = ix3 (i 0) 0 (i 2) := by
    rw [show (0 : Fin 1) = i 1 from Subsingleton.elim _ _]
    exact eq_ix3 i
  rw [hi]
  exact (Cert.ReferenceIdeal.Hand.refOut_apply _ _ _ _ (i 0) (i 2)).trans (Cert.KernelIdeal.Hand.result_apply m c (i 0) (i 2)).symm

/-- From memories that agree on the arguments, the kernel and the reference over the ideal reals both run to their end
    with equal results and unchanged arguments. -/
theorem algebraic : Cert.algebraic_KernelIdeal_ReferenceIdeal := by
  intro m g m' g' _ hm
  refine ⟨fun c => shapeCast Cert.KernelIdeal.S128x1x30592 (Cert.KernelIdeal.Hand.G m c) Cert.KernelIdeal.Gen.shapeCasts_S128x30592_S128x1x30592,
    (θ_run _ _ _).mono (fun r h => h.1) (Cert.KernelIdeal.Hand.run_value m g),
    (θ_run _ _ _).mono (fun r h c => ⟨(h c).1.trans ?_, (h c).2⟩) (Cert.ReferenceIdeal.Hand.run_value m' g')⟩
  obtain ⟨h0, h1, h2, h3⟩ := hm c
  rw [h0, h1, h2, h3]
  exact result_eq m c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameKernel
public import proofs.«01_k».proof.Proof.RunKernelIdeal
public import proofs.«01_k».proof.Proof.ValueReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims: the kernel, its ideal reading and the reference each run to their end and leave their arguments
    alone; the ideal reading is the kernel's own text; and over the ideal reals it and the reference have equal results. -/
theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
